-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x96x512x512 : Shape := ⟨4, ![2, 96, 512, 512]⟩
abbrev S96x1x3x3 : Shape := ⟨4, ![96, 1, 3, 3]⟩
abbrev S192x512x512 : Shape := ⟨3, ![192, 512, 512]⟩
abbrev S96x9 : Shape := ⟨2, ![96, 9]⟩
abbrev S1x512x512 : Shape := ⟨3, ![1, 512, 512]⟩
abbrev S512x512 : Shape := ⟨2, ![512, 512]⟩
abbrev S1x512 : Shape := ⟨2, ![1, 512]⟩
abbrev S512x1 : Shape := ⟨2, ![512, 1]⟩
abbrev S512x511 : Shape := ⟨2, ![512, 511]⟩
abbrev S1x1 : Shape := ⟨2, ![1, 1]⟩
abbrev S511x512 : Shape := ⟨2, ![511, 512]⟩

abbrev nBuf : Space → Nat
  | .hbm => 6
  | .vmem => 4
  | .smem => 1
  | _ => 0

abbrev bufTy : (tb : Table) → Fin (tcTables nBuf tb) → BufTy
  | .hbm, ⟨0, _⟩ => ⟨S2x96x512x512, .f32⟩
  | .hbm, ⟨1, _⟩ => ⟨S96x1x3x3, .f32⟩
  | .hbm, ⟨2, _⟩ => ⟨S192x512x512, .f32⟩
  | .hbm, ⟨3, _⟩ => ⟨S96x9, .f32⟩
  | .hbm, ⟨4, _⟩ => ⟨S192x512x512, .f32⟩
  | .hbm, ⟨5, _⟩ => ⟨S2x96x512x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .smem, ⟨0, _⟩ => ⟨S96x9, .f32⟩
  | _, _ => ⟨S2x96x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![192], ![false]⟩

def k0_off1 (i : grid0.Coords) : Fin 2 → Nat :=
  let arg0 : BitVec 32 := BitVec.ofNat 32 (i 0).val
  let c96_i32 : BitVec 32 := 96#32
  let v0 : BitVec 32 := Scalar.remsi arg0 c96_i32
  let v9 : Index := Scalar.indexCast v0
  let c0_3 : Index := 0#32
  ![v9.toNat, 0]
def k0_off2 (i : grid0.Coords) : Fin 2 → Nat :=
  let arg0 : BitVec 32 := BitVec.ofNat 32 (i 0).val
  let c96_i32 : BitVec 32 := 96#32
  let v0 : BitVec 32 := Scalar.remsi arg0 c96_i32
  let v13 : Index := Scalar.indexCast v0
  let c1 : Index := 1#32
  ![v13.toNat, 1]
def k0_off3 (i : grid0.Coords) : Fin 2 → Nat :=
  let arg0 : BitVec 32 := BitVec.ofNat 32 (i 0).val
  let c96_i32 : BitVec 32 := 96#32
  let v0 : BitVec 32 := Scalar.remsi arg0 c96_i32
  let v18 : Index := Scalar.indexCast v0
  let c2 : Index := 2#32
  ![v18.toNat, 2]
def k0_off4 (i : grid0.Coords) : Fin 2 → Nat :=
  let arg0 : BitVec 32 := BitVec.ofNat 32 (i 0).val
  let c96_i32 : BitVec 32 := 96#32
  let v0 : BitVec 32 := Scalar.remsi arg0 c96_i32
  let v23 : Index := Scalar.indexCast v0
  let c3 : Index := 3#32
  ![v23.toNat, 3]
def k0_off5 (i : grid0.Coords) : Fin 2 → Nat :=
  let arg0 : BitVec 32 := BitVec.ofNat 32 (i 0).val
  let c96_i32 : BitVec 32 := 96#32
  let v0 : BitVec 32 := Scalar.remsi arg0 c96_i32
  let v27 : Index := Scalar.indexCast v0
  let c4 : Index := 4#32
  ![v27.toNat, 4]
def k0_off6 (i : grid0.Coords) : Fin 2 → Nat :=
  let arg0 : BitVec 32 := BitVec.ofNat 32 (i 0).val
  let c96_i32 : BitVec 32 := 96#32
  let v0 : BitVec 32 := Scalar.remsi arg0 c96_i32
  let v32 : Index := Scalar.indexCast v0
  let c5 : Index := 5#32
  ![v32.toNat, 5]
def k0_off7 (i : grid0.Coords) : Fin 2 → Nat :=
  let arg0 : BitVec 32 := BitVec.ofNat 32 (i 0).val
  let c96_i32 : BitVec 32 := 96#32
  let v0 : BitVec 32 := Scalar.remsi arg0 c96_i32
  let v37 : Index := Scalar.indexCast v0
  let c6 : Index := 6#32
  ![v37.toNat, 6]
def k0_off8 (i : grid0.Coords) : Fin 2 → Nat :=
  let arg0 : BitVec 32 := BitVec.ofNat 32 (i 0).val
  let c96_i32 : BitVec 32 := 96#32
  let v0 : BitVec 32 := Scalar.remsi arg0 c96_i32
  let v41 : Index := Scalar.indexCast v0
  let c7 : Index := 7#32
  ![v41.toNat, 7]
def k0_off9 (i : grid0.Coords) : Fin 2 → Nat :=
  let arg0 : BitVec 32 := BitVec.ofNat 32 (i 0).val
  let c96_i32 : BitVec 32 := 96#32
  let v0 : BitVec 32 := Scalar.remsi arg0 c96_i32
  let v46 : Index := Scalar.indexCast v0
  let c8 : Index := 8#32
  ![v46.toNat, 8]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S96x9 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S2x96x512x512 : Shape := ⟨4, ![2, 96, 512, 512]⟩
abbrev S96x1x3x3 : Shape := ⟨4, ![96, 1, 3, 3]⟩
abbrev S_ : Shape := ⟨0, ![]⟩
abbrev S2x96x514x514 : Shape := ⟨4, ![2, 96, 514, 514]⟩
abbrev S96x1x1x1 : Shape := ⟨4, ![96, 1, 1, 1]⟩
abbrev S96 : Shape := ⟨1, ![96]⟩
abbrev S1x96x1x1 : Shape := ⟨4, ![1, 96, 1, 1]⟩

abbrev nBuf : Space → Nat
  | .hbm => 70
  | .vmem => 0
  | .smem => 0
  | _ => 0

abbrev bufTy : (tb : Table) → Fin (tcTables nBuf tb) → BufTy
  | .hbm, ⟨0, _⟩ => ⟨S2x96x512x512, .f32⟩
  | .hbm, ⟨1, _⟩ => ⟨S96x1x3x3, .f32⟩
  | .hbm, ⟨2, _⟩ => ⟨S_, .i32⟩
  | .hbm, ⟨3, _⟩ => ⟨S_, .f32⟩
  | .hbm, ⟨4, _⟩ => ⟨S2x96x514x514, .f32⟩
  | .hbm, ⟨5, _⟩ => ⟨S_, .f32⟩
  | .hbm, ⟨6, _⟩ => ⟨S2x96x512x512, .f32⟩
  | .hbm, ⟨7, _⟩ => ⟨S96x1x1x1, .f32⟩
  | .hbm, ⟨8, _⟩ => ⟨S96, .f32⟩
  | .hbm, ⟨9, _⟩ => ⟨S1x96x1x1, .f32⟩
  | .hbm, ⟨10, _⟩ => ⟨S2x96x512x512, .f32⟩
  | .hbm, ⟨11, _⟩ => ⟨S2x96x512x512, .f32⟩
  | .hbm, ⟨12, _⟩ => ⟨S2x96x512x512, .f32⟩
  | .hbm, ⟨13, _⟩ => ⟨S2x96x512x512, .f32⟩
  | .hbm, ⟨14, _⟩ => ⟨S96x1x1x1, .f32⟩
  | .hbm, ⟨15, _⟩ => ⟨S96, .f32⟩
  | .hbm, ⟨16, _⟩ => ⟨S1x96x1x1, .f32⟩
  | .hbm, ⟨17, _⟩ => ⟨S2x96x512x512, .f32⟩
  | .hbm, ⟨18, _⟩ => ⟨S2x96x512x512, .f32⟩
  | .hbm, ⟨19, _⟩ => ⟨S2x96x512x512, .f32⟩
  | .hbm, ⟨20, _⟩ => ⟨S2x96x512x512, .f32⟩
  | .hbm, ⟨21, _⟩ => ⟨S96x1x1x1, .f32⟩
  | .hbm, ⟨22, _⟩ => ⟨S96, .f32⟩
  | .hbm, ⟨23, _⟩ => ⟨S1x96x1x1, .f32⟩
  | .hbm, ⟨24, _⟩ => ⟨S2x96x512x512, .f32⟩
  | .hbm, ⟨25, _⟩ => ⟨S2x96x512x512, .f32⟩
  | .hbm, ⟨26, _⟩ => ⟨S2x96x512x512, .f32⟩
  | .hbm, ⟨27, _⟩ => ⟨S2x96x512x512, .f32⟩
  | .hbm, ⟨28, _⟩ => ⟨S96x1x1x1, .f32⟩
  | .hbm, ⟨29, _⟩ => ⟨S96, .f32⟩
  | .hbm, ⟨30, _⟩ => ⟨S1x96x1x1, .f32⟩
  | .hbm, ⟨31, _⟩ => ⟨S2x96x512x512, .f32⟩
  | .hbm, ⟨32, _⟩ => ⟨S2x96x512x512, .f32⟩
  | .hbm, ⟨33, _⟩ => ⟨S2x96x512x512, .f32⟩
  | .hbm, ⟨34, _⟩ => ⟨S2x96x512x512, .f32⟩
  | .hbm, ⟨35, _⟩ => ⟨S96x1x1x1, .f32⟩
  | .hbm, ⟨36, _⟩ => ⟨S96, .f32⟩
  | .hbm, ⟨37, _⟩ => ⟨S1x96x1x1, .f32⟩
  | .hbm, ⟨38, _⟩ => ⟨S2x96x512x512, .f32⟩
  | .hbm, ⟨39, _⟩ => ⟨S2x96x512x512, .f32⟩
  | .hbm, ⟨40, _⟩ => ⟨S2x96x512x512, .f32⟩
  | .hbm, ⟨41, _⟩ => ⟨S2x96x512x512, .f32⟩
  | .hbm, ⟨42, _⟩ => ⟨S96x1x1x1, .f32⟩
  | .hbm, ⟨43, _⟩ => ⟨S96, .f32⟩
  | .hbm, ⟨44, _⟩ => ⟨S1x96x1x1, .f32⟩
  | .hbm, ⟨45, _⟩ => ⟨S2x96x512x512, .f32⟩
  | .hbm, ⟨46, _⟩ => ⟨S2x96x512x512, .f32⟩
  | .hbm, ⟨47, _⟩ => ⟨S2x96x512x512, .f32⟩
  | .hbm, ⟨48, _⟩ => ⟨S2x96x512x512, .f32⟩
  | .hbm, ⟨49, _⟩ => ⟨S96x1x1x1, .f32⟩
  | .hbm, ⟨50, _⟩ => ⟨S96, .f32⟩
  | .hbm, ⟨51, _⟩ => ⟨S1x96x1x1, .f32⟩
  | .hbm, ⟨52, _⟩ => ⟨S2x96x512x512, .f32⟩
  | .hbm, ⟨53, _⟩ => ⟨S2x96x512x512, .f32⟩
  | .hbm, ⟨54, _⟩ => ⟨S2x96x512x512, .f32⟩
  | .hbm, ⟨55, _⟩ => ⟨S2x96x512x512, .f32⟩
  | .hbm, ⟨56, _⟩ => ⟨S96x1x1x1, .f32⟩
  | .hbm, ⟨57, _⟩ => ⟨S96, .f32⟩
  | .hbm, ⟨58, _⟩ => ⟨S1x96x1x1, .f32⟩
  | .hbm, ⟨59, _⟩ => ⟨S2x96x512x512, .f32⟩
  | .hbm, ⟨60, _⟩ => ⟨S2x96x512x512, .f32⟩
  | .hbm, ⟨61, _⟩ => ⟨S2x96x512x512, .f32⟩
  | .hbm, ⟨62, _⟩ => ⟨S2x96x512x512, .f32⟩
  | .hbm, ⟨63, _⟩ => ⟨S96x1x1x1, .f32⟩
  | .hbm, ⟨64, _⟩ => ⟨S96, .f32⟩
  | .hbm, ⟨65, _⟩ => ⟨S1x96x1x1, .f32⟩
  | .hbm, ⟨66, _⟩ => ⟨S2x96x512x512, .f32⟩
  | .hbm, ⟨67, _⟩ => ⟨S2x96x512x512, .f32⟩
  | .hbm, ⟨68, _⟩ => ⟨S2x96x512x512, .f32⟩
  | .hbm, ⟨69, _⟩ => ⟨S2x96x512x512, .f32⟩
  | _, _ => ⟨S2x96x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩

abbrev nD : Nat := 1
abbrev τ : Topo := Topo.v7x

variable {F : FTy → Type} [FloatOps F]
-- ==== Proof.Conv.lean ====
/- The mathematics of the problem at one output element: a 3 × 3 filter over one plane of 512 × 512 extended
   reals, the plane read as zero outside its edges. Nothing here mentions a program. -/
module

public import Idealize.ShloMosaic.PureOps.Ideal

@[expose] public section

noncomputable section

namespace Cert.Conv

/-- The plane with a border of zeros, one element wide, on each side: `bordered P r s` is the element in row `r`,
    column `s` of the 514 × 514 result. -/
def bordered (P : Fin 512 → Fin 512 → EReal) (r s : ℕ) : EReal :=
  if h : (1 ≤ r ∧ r < 513) ∧ 1 ≤ s ∧ s < 513 then P ⟨r - 1, by omega⟩ ⟨s - 1, by omega⟩ else 0

/-- The filter `w` at row `i`, column `j`: the nine products of a tap and the bordered element under it, summed. -/
def conv (w : Fin 3 → Fin 3 → EReal) (P : Fin 512 → Fin 512 → EReal) (i j : Fin 512) : EReal :=
  ∑ a : Fin 3, ∑ b : Fin 3, w a b * bordered P (i.val + a.val) (j.val + b.val)

/-- Inside the plane the border changes nothing. -/
theorem bordered_of_mem (P : Fin 512 → Fin 512 → EReal) {r s : ℕ} {r' s' : Fin 512} (hr : r = r'.val + 1)
    (hs : s = s'.val + 1) : bordered P r s = P r' s' := by
  subst hr hs
  unfold bordered
  rw [dif_pos ⟨⟨by omega, by omega⟩, by omega, by omega⟩]
  rfl

/-- Above and below the plane the bordered plane is zero. -/
theorem bordered_of_row (P : Fin 512 → Fin 512 → EReal) {r s : ℕ} (hr : r = 0 ∨ r = 513) : bordered P r s = 0 :=
  dif_neg (by omega)

/-- Left and right of the plane the bordered plane is zero. -/
theorem bordered_of_col (P : Fin 512 → Fin 512 → EReal) {r s : ℕ} (hs : s = 0 ∨ s = 513) : bordered P r s = 0 :=
  dif_neg (by omega)

/-- The filter's rows, one after the other, each of its three products from left to right. -/
theorem conv_eq (w : Fin 3 → Fin 3 → EReal) (P : Fin 512 → Fin 512 → EReal) (i j : Fin 512) :
    conv w P i j =
      (w 0 0 * bordered P i.val j.val + w 0 1 * bordered P i.val (j.val + 1) + w 0 2 * bordered P i.val (j.val + 2))
      + (w 1 0 * bordered P (i.val + 1) j.val + w 1 1 * bordered P (i.val + 1) (j.val + 1)
          + w 1 2 * bordered P (i.val + 1) (j.val + 2))
      + (w 2 0 * bordered P (i.val + 2) j.val + w 2 1 * bordered P (i.val + 2) (j.val + 1)
          + w 2 2 * bordered P (i.val + 2) (j.val + 2)) := by
  unfold conv
  simp only [Fin.sum_univ_three]
  rfl

end Cert.Conv

end
-- ==== Proof.RefValue.lean ====
/- The reference's result, read at one element, is the 3 × 3 filter of `Conv.lean`. -/
module

public import proofs.«01_k».proof.Proof.Conv
public import proofs.«01_k».proof.Proof.Gen.ReferenceIdeal.Run
public import Idealize.ShloMosaic.Lib.Pointwise

@[expose] public section

set_option maxRecDepth 16384

noncomputable section

namespace Cert.ReferenceIdeal.Filter

open Cert.ReferenceIdeal Cert.ReferenceIdeal.Gen Idealize.ShloMosaic Idealize.ShloMosaic.TcCoe Idealize.SL.Sem

/-- The zero-padded activations at image `n`, channel `c` are that plane with its border of zeros. -/
theorem padded_at (X : FVec Ideal S2x96x512x512 .f32) (n : Fin 2) (c : Fin 96) (r s : Fin 514) :
    pad S2x96x514x514 ![0, 0, 1, 1] ![0, 0, 1, 1] ![0, 0, 0, 0] X (sitofp (F := Ideal) .f32 (constantI S_ 32 0#32))
        pads_S2x96x512x512_S2x96x514x514_000_000_110_110 h_S_ (ix4 n c r s)
      = Cert.Conv.bordered (fun a b => X (ix4 n c a b)) r.val s.val := by
  have h0 : (FloatOps.sitofp FTy.f32 0#32 : Ideal .f32) = 0 := by
    show (((0#32 : BitVec 32).toInt : ℝ) : EReal) = 0
    simp
  pointwise [Cert.Conv.bordered]
  rw [h0]
  by_cases h : (1 ≤ r.val ∧ r.val < 513) ∧ 1 ≤ s.val ∧ s.val < 513
  · rw [dif_pos h, dif_pos (by omega)]
  · rw [dif_neg h, dif_neg (by omega)]

/-- The reference's result at image `n`, channel `c`, row `i`, column `j`: the channel's filter over that plane. -/
theorem res_at (m : (ℓ : Loc nD τ sig) → Buf (Elt Ideal) ℓ) (d : Dev nD) (n : Fin 2) (c : Fin 96) (i j : Fin 512) :
    Value.res_out0 m d (ix4 n c i j)
      = Cert.Conv.conv (fun a b => m ((d.tc : Thread nD τ).loc main_arg1) (ix4 c 0 a b))
          (fun a b => m ((d.tc : Thread nD τ).loc main_arg0) (ix4 n c a b)) i j := by
  have hP := padded_at (m ((d.tc : Thread nD τ).loc main_arg0)) n c
  rw [Cert.Conv.conv_eq]
  unfold Value.res_out0 Value.res_main_v64
  generalize pad S2x96x514x514 _ _ _ _ _ _ _ = P at hP ⊢
  pointwise
  simp only [hP, Nat.add_comm 1, Nat.add_comm 2, add_assoc]

end Cert.ReferenceIdeal.Filter

end
-- ==== Proof.Payload.lean ====
/- What the kernel stores for one plane, read at one element, is the 3 × 3 filter of `Conv.lean`. -/
module

public import proofs.«01_k».proof.Proof.Conv
public import proofs.«01_k».proof.Proof.Gen.KernelIdeal.Skeleton
public import Idealize.ShloMosaic.Lib.Pointwise

@[expose] public section

set_option maxRecDepth 16384

noncomputable section

namespace Cert.KernelIdeal.Filter

open Cert.KernelIdeal Cert.KernelIdeal.Gen Idealize.ShloMosaic Idealize.ShloMosaic.TcCoe Idealize.SL.Sem

variable (v : FVec Ideal S1x512x512 .f32)

/-- The one plane of a block, as a function of row and column. -/
abbrev plane (v : FVec Ideal S1x512x512 .f32) : Fin 512 → Fin 512 → EReal := fun a b => v (ix3 0 a b)

/-- The plane itself is the bordered plane one row down and one column to the right. -/
theorem middle_at (i j : Fin 512) :
    k0_pay2 (F := Ideal) v (ix2 i j) = Cert.Conv.bordered (plane v) (i.val + 1) (j.val + 1) := by
  rw [Cert.Conv.bordered_of_mem (plane v) (r' := i) (s' := j) rfl rfl]
  pointwise [k0_pay2]

/-- The plane moved one column to the right, a column of zeros in front. -/
theorem left_at (i j : Fin 512) :
    k0_pay5 (F := Ideal) v (ix2 i j) = Cert.Conv.bordered (plane v) (i.val + 1) j.val := by
  pointwise [k0_pay5, k0_pay4, k0_pay2]
  by_cases h : j.val < 1
  · rw [dif_pos h, Cert.Conv.bordered_of_col _ (Or.inl (by omega))]
  · rw [dif_neg h]
    exact (Cert.Conv.bordered_of_mem (plane v) (r' := i) (s' := ⟨j.val - 1, by omega⟩) rfl (by simp only; omega)).symm

/-- The plane moved one column to the left, a column of zeros behind. -/
theorem right_at (i j : Fin 512) :
    k0_pay6 (F := Ideal) v (ix2 i j) = Cert.Conv.bordered (plane v) (i.val + 1) (j.val + 2) := by
  pointwise [k0_pay6, k0_pay4, k0_pay2]
  by_cases h : j.val < 511
  · rw [dif_pos h]
    exact (Cert.Conv.bordered_of_mem (plane v) (r' := i) (s' := ⟨1 + j.val, by omega⟩) rfl (by simp only; omega)).symm
  · rw [dif_neg h, Cert.Conv.bordered_of_col _ (Or.inr (by omega))]

/-- The upper taps' row of products, before it is moved down. -/
theorem upper_at (a b c : Elt Ideal .f32) (i j : Fin 512) :
    k0_pay7 (F := Ideal) v a b c (ix2 i j)
      = a * Cert.Conv.bordered (plane v) (i.val + 1) j.val + b * Cert.Conv.bordered (plane v) (i.val + 1) (j.val + 1)
        + c * Cert.Conv.bordered (plane v) (i.val + 1) (j.val + 2) := by
  rw [← left_at, ← middle_at, ← right_at]
  pointwise [k0_pay7]

/-- The middle taps' row of products. -/
theorem level_at (a b c : Elt Ideal .f32) (i j : Fin 512) :
    k0_pay8 (F := Ideal) v a b c (ix2 i j)
      = a * Cert.Conv.bordered (plane v) (i.val + 1) j.val + b * Cert.Conv.bordered (plane v) (i.val + 1) (j.val + 1)
        + c * Cert.Conv.bordered (plane v) (i.val + 1) (j.val + 2) := by
  rw [← left_at, ← middle_at, ← right_at]
  pointwise [k0_pay8]

/-- The lower taps' first product, before it is moved up. -/
theorem lower_left_at (a : Elt Ideal .f32) (i j : Fin 512) :
    k0_pay9 (F := Ideal) v a (ix2 i j) = a * Cert.Conv.bordered (plane v) (i.val + 1) j.val := by
  rw [← left_at]
  pointwise [k0_pay9]

/-- The lower taps' second product, before it is moved up. -/
theorem lower_middle_at (b : Elt Ideal .f32) (i j : Fin 512) :
    k0_pay10 (F := Ideal) v b (ix2 i j) = b * Cert.Conv.bordered (plane v) (i.val + 1) (j.val + 1) := by
  rw [← middle_at]
  pointwise [k0_pay10]

/-- The stored block at row `i`, column `j`: the filter whose taps are the nine words, over the plane. -/
theorem stored_at (w : Fin 3 → Fin 3 → Elt Ideal .f32) (i j : Fin 512) :
    k0_pay1 (F := Ideal) k0_pay3 (k0_pay6 v) (k0_pay7 v (w 0 0) (w 0 1) (w 0 2)) (k0_pay8 v (w 1 0) (w 1 1) (w 1 2))
        (k0_pay9 v (w 2 0)) (k0_pay10 v (w 2 1)) (w 2 2) (ix3 0 i j)
      = Cert.Conv.conv w (plane v) i j := by
  rw [Cert.Conv.conv_eq]
  have hu := upper_at v (w 0 0) (w 0 1) (w 0 2)
  have hm := level_at v (w 1 0) (w 1 1) (w 1 2)
  have hl := lower_left_at v (w 2 0)
  have hc := lower_middle_at v (w 2 1)
  have hr := right_at v
  generalize k0_pay6 (F := Ideal) v = R at hr ⊢
  generalize k0_pay7 (F := Ideal) v _ _ _ = U at hu ⊢
  generalize k0_pay8 (F := Ideal) v _ _ _ = M at hm ⊢
  generalize k0_pay9 (F := Ideal) v _ = L at hl ⊢
  generalize k0_pay10 (F := Ideal) v _ = C at hc ⊢
  pointwise [k0_pay1, k0_pay3]
  simp only [hu, hm, hl, hc, hr]
  have top : (if h : i.val < 1 then (0 : EReal) else
        w 0 0 * Cert.Conv.bordered (plane v) (i.val - 1 + 1) j.val
          + w 0 1 * Cert.Conv.bordered (plane v) (i.val - 1 + 1) (j.val + 1)
          + w 0 2 * Cert.Conv.bordered (plane v) (i.val - 1 + 1) (j.val + 2))
      = w 0 0 * Cert.Conv.bordered (plane v) i.val j.val + w 0 1 * Cert.Conv.bordered (plane v) i.val (j.val + 1)
          + w 0 2 * Cert.Conv.bordered (plane v) i.val (j.val + 2) := by
    by_cases h : i.val < 1
    · rw [dif_pos h]
      simp only [Cert.Conv.bordered_of_row (plane v) (r := i.val) (Or.inl (by omega)), mul_zero, add_zero]
    · rw [dif_neg h, show i.val - 1 + 1 = i.val by omega]
  have bot : (if h : i.val < 511 then
        w 2 0 * Cert.Conv.bordered (plane v) (1 + i.val + 1) j.val
          + w 2 1 * Cert.Conv.bordered (plane v) (1 + i.val + 1) (j.val + 1)
          + w 2 2 * Cert.Conv.bordered (plane v) (1 + i.val + 1) (j.val + 2) else (0 : EReal))
      = w 2 0 * Cert.Conv.bordered (plane v) (i.val + 2) j.val
          + w 2 1 * Cert.Conv.bordered (plane v) (i.val + 2) (j.val + 1)
          + w 2 2 * Cert.Conv.bordered (plane v) (i.val + 2) (j.val + 2) := by
    by_cases h : i.val < 511
    · rw [dif_pos h, show 1 + i.val + 1 = i.val + 2 by omega]
    · rw [dif_neg h]
      simp only [Cert.Conv.bordered_of_row (plane v) (r := i.val + 2) (Or.inr (by omega)), mul_zero, add_zero]
  erw [top, bot]
  rw [add_comm (_ + _ + _) (w 0 0 * _ + _ + _)]

end Cert.KernelIdeal.Filter

end
-- ==== Proof.Value.lean ====
/- The kernel's result array over the extended reals: every plane is its channel's 3 × 3 filter, `Conv.lean`, over the
   argument's plane. -/
module

public import proofs.«01_k».proof.Proof.Payload
public import proofs.«01_k».proof.Proof.Gen.KernelIdeal.Frame
public import Idealize.ShloMosaic.Lib.Pipeline.ValueKit
public import Idealize.ShloMosaic.Lib.Claim

@[expose] public section

set_option maxRecDepth 16384

noncomputable section

namespace Cert.KernelIdeal.Filter

open Cert.KernelIdeal Cert.KernelIdeal.Gen Idealize.ShloMosaic Idealize.ShloMosaic.TcCoe Idealize.SL.Sem
open Idealize.ShloMosaic.Pipeline (Dat)

/-! ## The host's reshapes, read at an element -/

/-- Image and channel folded into one axis: plane `p = 96 n + r` is image `n`'s channel `r`. -/
theorem folded_at (X : FVec Ideal S2x96x512x512 .f32) (p : Fin 192) (n : Fin 2) (r : Fin 96)
    (hp : p.val = 96 * n.val + r.val) (i j : Fin 512) :
    shapeCast S192x512x512 X shapeCasts_S2x96x512x512_S192x512x512 (ix3 p i j) = X (ix4 n r i j) := by
  pointwise
  rw [show (⟨p.val / 96, by omega⟩ : Fin 2) = n from Fin.ext (by simp only; omega),
    show (⟨p.val % 96, by omega⟩ : Fin 96) = r from Fin.ext (by simp only; omega)]

/-- The folded axis split again. -/
theorem unfolded_at (X : FVec Ideal S192x512x512 .f32) (p : Fin 192) (n : Fin 2) (r : Fin 96)
    (hp : p.val = 96 * n.val + r.val) (i j : Fin 512) :
    shapeCast S2x96x512x512 X shapeCasts_S192x512x512_S2x96x512x512 (ix4 n r i j) = X (ix3 p i j) := by
  pointwise
  rw [show (⟨n.val * 96 + r.val, by omega⟩ : Fin 192) = p from Fin.ext (by simp only; omega)]

/-- The table of taps: word `k = 3 a + b` of channel `r` is the weight at row `a`, column `b`. -/
theorem taps_at (W : FVec Ideal S96x1x3x3 .f32) (r : Fin 96) (k : Fin 9) (a b : Fin 3)
    (hk : k.val = 3 * a.val + b.val) :
    shapeCast S96x9 W shapeCasts_S96x1x3x3_S96x9 (ix2 r k) = W (ix4 r 0 a b) := by
  pointwise
  rw [show (⟨k.val / 3, by omega⟩ : Fin 3) = a from Fin.ext (by simp only; omega),
    show (⟨k.val % 3, by omega⟩ : Fin 3) = b from Fin.ext (by simp only; omega)]

/-! ## What the body finds at a grid point -/

variable (m : (ℓ : Loc nD τ sig) → Buf (Elt Ideal) ℓ) (c : Dev nD)

/-- Where the three windows stand at point `t`: the whole table of taps, plane `t` of the input, plane `t` of the result. -/
theorem window_at : ∀ t : Fin cfg0.N, win0_0.index t = ![0, 0] ∧ win0_1.index t = ![t.val, 0, 0]
    ∧ win0_2.index t = ![t.val, 0, 0] ∧ ((grid0.coords t) 0).val = t.val :=
  (by decide +kernel : ∀ t : Fin grid0.N, _)

/-- The activations the kernel is launched on: the first argument, image and channel folded. -/
theorem entry_x : V m c main_call0_v0
    = shapeCast S192x512x512 (m ((c : Thread nD τ).loc main_arg0)) shapeCasts_S2x96x512x512_S192x512x512 := by
  simp only [V, V0, hostOps0, List.flatten_cons, List.flatten_nil, List.append_nil]
  after_results
  rfl

/-- The taps the kernel is launched on: the second argument, nine words to a channel. -/
theorem entry_w : V m c main_call0_v1
    = shapeCast S96x9 (m ((c : Thread nD τ).loc main_arg1)) shapeCasts_S96x1x3x3_S96x9 := by
  simp only [V, V0, hostOps0, List.flatten_cons, List.flatten_nil, List.append_nil]
  after_results
  rfl

/-- A word of the table staged at any point, as a weight of the argument. -/
theorem staged_tap (t : Fin cfg0.N) (r : Fin 96) (k : Fin 9) (a b : Fin 3) (hk : k.val = 3 * a.val + b.val) :
    iblk m c 0 t (ix2 r k) = m ((c : Thread nD τ).loc main_arg1) (ix4 r 0 a b) := by
  have e : iblk m c 0 t (ix2 r k) = V m c main_call0_v1 (ix2 r k) := by
    blk_ext [iblk, window_at t]
  rw [e, entry_w]
  exact taps_at _ r k a b hk

/-- The plane staged at point `t = 96 n + r`: image `n`'s channel `r` of the argument. -/
theorem staged_plane (t : Fin cfg0.N) (n : Fin 2) (r : Fin 96) (ht : t.val = 96 * n.val + r.val) (i j : Fin 512) :
    iblk m c 1 t (ix3 0 i j) = m ((c : Thread nD τ).loc main_arg0) (ix4 n r i j) := by
  obtain ⟨p, hp⟩ : ∃ p : Fin 192, p.val = t.val := ⟨⟨t.val, by omega⟩, rfl⟩
  have e : iblk m c 1 t (ix3 0 i j) = V m c main_call0_v0 (ix3 p i j) := by
    blk_ext [iblk, window_at t]
  rw [e, entry_x]
  exact folded_at _ p n r (by omega) i j

/-- One word loaded from a table of taps: the element its two offsets name. -/
theorem load_word (X : Vec Ideal S96x9 .f32) (off : Fin 2 → ℕ) (inb) (h) (r : Fin 96) (k : Fin 9)
    (e : off = ![r.val, k.val]) :
    View.ld X (Rect.unit (s := S96x9) off ![1, 1] inb) (Shape.Idx.first h) = X (ix2 r k) := by
  subst e
  refine View.ld_unit_apply_of X _ _ _ _ _ fun a => ?_
  fin_cases a <;> rfl

/-! ## The result -/

/-- The filtered plane of image `n`, channel `r`, at row `i`, column `j`: what the result is to hold there. -/
def filtered (n : Fin 2) (r : Fin 96) (i j : Fin 512) : EReal :=
  Cert.Conv.conv (fun a b => m ((c : Thread nD τ).loc main_arg1) (ix4 r 0 a b))
    (fun a b => m ((c : Thread nD τ).loc main_arg0) (ix4 n r a b)) i j

/-- The array the kernel writes: plane after plane, filtered. -/
def planes : FVec Ideal S192x512x512 .f32 := fun y =>
  filtered m c ⟨(y 0).val / 96, by have h : (y 0).val < 192 := (y 0).isLt; omega⟩
    ⟨(y 0).val % 96, Nat.mod_lt _ (by decide)⟩ (y 1) (y 2)

/-- That array at a plane, row and column. -/
theorem planes_at (p : Fin 192) (n : Fin 2) (r : Fin 96) (hp : p.val = 96 * n.val + r.val) (i j : Fin 512) :
    planes m c (ix3 p i j) = filtered m c n r i j := by
  show filtered m c ⟨p.val / 96, _⟩ ⟨p.val % 96, _⟩ i j = _
  rw [show (⟨p.val / 96, by omega⟩ : Fin 2) = n from Fin.ext (by simp only; omega),
    show (⟨p.val % 96, by omega⟩ : Fin 96) = r from Fin.ext (by simp only; omega)]

/-- The array after the last grid point: every point wrote its plane, filtered. -/
theorem final : (dats m 0 c).arrAt 2 (cfgs 0).N = planes m c := by
  refine (dats m 0 c).arrAt_eq_of_covers 2 _ (by decide +kernel) fun t _ y => ?_
  have hN : t.val < 192 := lt_of_lt_of_eq t.isLt (by decide)
  obtain ⟨p, hp⟩ : ∃ p : Fin 192, p.val = t.val := ⟨⟨t.val, hN⟩, rfl⟩
  obtain ⟨n, hn⟩ : ∃ n : Fin 2, n.val = t.val / 96 := ⟨⟨t.val / 96, by omega⟩, rfl⟩
  obtain ⟨r, hr⟩ : ∃ r : Fin 96, r.val = t.val % 96 := ⟨⟨t.val % 96, by omega⟩, rfl⟩
  have ht : t.val = 96 * n.val + r.val := by omega
  have hc : ((grid0.coords t) 0).val % 96 = r.val := by rw [(window_at t).2.2.2, hr]
  obtain ⟨i, j, rfl⟩ : ∃ i j : Fin 512, y = ix3 (0 : Fin 1) i j := ⟨y 1, y 2, by idx_ext⟩
  blk_simp
  rw [after0_2]; unfold outsAt0; frame_out
  have word (off : Fin 2 → ℕ) (inb) (h) (k : Fin 9) (a b : Fin 3) (hk : k.val = 3 * a.val + b.val)
      (e : off = ![((grid0.coords t) 0).val % 96, k.val]) :
      View.ld (iblk m c 0 t) (Rect.unit (s := S96x9) off ![1, 1] inb) (Shape.Idx.first h)
        = m ((c : Thread nD τ).loc main_arg1) (ix4 r 0 a b) :=
    (load_word (iblk m c 0 t) off inb h r k (by rw [e, hc])).trans (staged_tap m c t r k a b hk)
  rw [word _ _ _ 0 0 0 rfl (k0_off1_eq _), word _ _ _ 1 0 1 rfl (k0_off2_eq _), word _ _ _ 2 0 2 rfl (k0_off3_eq _),
    word _ _ _ 3 1 0 rfl (k0_off4_eq _), word _ _ _ 4 1 1 rfl (k0_off5_eq _), word _ _ _ 5 1 2 rfl (k0_off6_eq _),
    word _ _ _ 6 2 0 rfl (k0_off7_eq _), word _ _ _ 7 2 1 rfl (k0_off8_eq _), word _ _ _ 8 2 2 rfl (k0_off9_eq _)]
  refine (stored_at (iblk m c 1 t) (fun a b => m ((c : Thread nD τ).loc main_arg1) (ix4 r 0 a b)) i j).trans ?_
  have hplane : plane (iblk m c 1 t) = fun a b => m ((c : Thread nD τ).loc main_arg0) (ix4 n r a b) :=
    funext fun a => funext fun b => staged_plane m c t n r ht a b
  rw [hplane]
  have he : ((View.whole main_call0_v2).slice (win0_2.rect t)).emb (ix3 (0 : Fin 1) i j) = ix3 p i j := by
    blk_ext [window_at t]
  rw [he, planes_at m c p n r (by omega)]
  rfl

/-- What the last reshape leaves: the array of planes with its first axis split into image and channel. -/
theorem result_eq : Pipeline.afterTail₀ cfgs (dats m) 0 (V0 m) [hostOps1] c main_v0
    = shapeCast S2x96x512x512 (planes m c) shapeCasts_S192x512x512_S2x96x512x512 := by
  rw [← final]
  unfold Pipeline.afterTail₀
  simp only [hostOps1, List.flatten_cons, List.flatten_nil, List.append_nil]
  after_results
  exact congrArg (fun X => shapeCast S2x96x512x512 X shapeCasts_S192x512x512_S2x96x512x512)
    (Pipeline.withArrays_arr (cfgs 0).spec (by decide) c (V0 m c) (fun w => (dats m 0 c).arrAt w (cfgs 0).N) 2)

/-- The kernel program's result at image `n`, channel `r`, row `i`, column `j`. -/
theorem result_at (n : Fin 2) (r : Fin 96) (i j : Fin 512) :
    Pipeline.afterTail₀ cfgs (dats m) 0 (V0 m) [hostOps1] c main_v0 (ix4 n r i j) = filtered m c n r i j := by
  obtain ⟨p, hp⟩ : ∃ p : Fin 192, p.val = 96 * n.val + r.val := ⟨⟨96 * n.val + r.val, by omega⟩, rfl⟩
  rw [result_eq]
  exact (unfolded_at (planes m c) p n r hp i j).trans (planes_at m c p n r hp i j)

/-- From any memory the kernel program ends with its result at that array and its arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v0) = Pipeline.afterTail₀ cfgs (dats m) 0 (V0 m) [hostOps1] c main_v0
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h.1 c).2 main_v0 (by decide), h.2.1 c⟩)
    (θ_run_and (run_main m ρ) (frame m ρ))

end Cert.KernelIdeal.Filter

end
-- ==== Proof.lean ====
/- The claims of this certificate, from the runs of the three programs and the values in `Value.lean` and
   `RefValue.lean`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefValue
public import proofs.«01_k».proof.Proof.Value
public import Idealize.ShloMosaic.Lib.Claim
public import Idealize.ShloMosaic.Lib.Quiescent
public import Idealize.ShloMosaic.Adequacy
public import Idealize.ShloMosaic.Init

@[expose] public section

noncomputable section

set_option maxRecDepth 16384

namespace Cert.Proof

open Idealize.ShloMosaic Idealize.SL.Sem Cert.Kernel

/-- From any memory the kernel program ends, its arguments as they were and every semaphore at zero. -/
theorem frame_kernel : Cert.quiescent_Kernel (hKernel := Cert.Kernel.Gen.facts) :=
  fun m ρ _ => Cert.Kernel.Gen.frame m ρ

/-- The same of the kernel program over the extended reals. -/
theorem frame_kernel_ideal : Cert.quiescent_KernelIdeal (hKernelIdeal := Cert.KernelIdeal.Gen.facts) :=
  fun m ρ _ => Cert.KernelIdeal.Gen.frame m ρ

/-- The same of the reference over the extended reals. -/
theorem frame_reference : Cert.quiescent_ReferenceIdeal (hReferenceIdeal := Cert.ReferenceIdeal.Gen.facts) :=
  fun m ρ _ => (θ_run Cert.ReferenceIdeal.defs _ _).mono
    (fun r h => ⟨fun c => ⟨(h c).2.1, (h c).2.2⟩, Idealize.ShloMosaic.sem_eq_zero_of_no_sems (by decide) r.2⟩)
    (Cert.ReferenceIdeal.Value.run (F := Ideal) m ρ)

/-- From memories that agree on both arguments, the kernel program and the reference end with the same result. -/
theorem same_result : Cert.algebraic_KernelIdeal_ReferenceIdeal (hKernelIdeal := Cert.KernelIdeal.Gen.facts)
    (hReferenceIdeal := Cert.ReferenceIdeal.Gen.facts) := by
  pair_intro
  · exact Cert.KernelIdeal.Filter.run m g
  · refine (θ_run Cert.ReferenceIdeal.defs _ _).mono (fun r h c => ⟨(h c).1.trans ?_, (h c).2⟩)
      (Cert.ReferenceIdeal.Value.run (F := Ideal) m' g')
    refine funext fun (y : Cert.KernelIdeal.S2x96x512x512.Idx) => ?_
    obtain ⟨n, k, i, j, rfl⟩ : ∃ (n : Fin 2) (k : Fin 96) (i j : Fin 512), y = ix4 n k i j :=
      ⟨y 0, y 1, y 2, y 3, by idx_ext⟩
    refine (Cert.ReferenceIdeal.Filter.res_at m' c n k i j).trans ?_
    rw [(hagree c).1, (hagree c).2]
    exact (Cert.KernelIdeal.Filter.result_at m c n k i j).symm

/-- Every claim of this certificate. -/
theorem claim : Cert.Claim := ⟨Cert.Kernel.Gen.facts, Cert.KernelIdeal.Gen.facts, Cert.ReferenceIdeal.Gen.facts,
  frame_kernel, frame_kernel_ideal, frame_reference, trivial, same_result⟩

end Cert.Proof

end
